-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1024 : Shape := ⟨1, ![1024]⟩
abbrev S1024x8192 : Shape := ⟨2, ![1024, 8192]⟩
abbrev S1x128 : Shape := ⟨2, ![1, 128]⟩
abbrev S8192x2 : Shape := ⟨2, ![8192, 2]⟩

abbrev nBuf : Space → Nat
  | .hbm => 12
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x1, .f32⟩
  | .hbm, ⟨8, _⟩ => ⟨S8192x1, .i32⟩
  | .hbm, ⟨9, _⟩ => ⟨S8192, .i32⟩
  | .hbm, ⟨10, _⟩ => ⟨S8192x1, .i32⟩
  | .hbm, ⟨11, _⟩ => ⟨S8192x2, .i32⟩
  | .local _ .vmem, ⟨0, _⟩ => ⟨S1024x128, .f32⟩
  | .local _ .vmem, ⟨1, _⟩ => ⟨S1024x128, .f32⟩
  | .local _ .vmem, ⟨2, _⟩ => ⟨S8192x128, .f32⟩
  | .local _ .vmem, ⟨3, _⟩ => ⟨S1x8192, .f32⟩
  | .local _ .vmem, ⟨4, _⟩ => ⟨S1024x1, .f32⟩
  | .local _ .vmem, ⟨5, _⟩ => ⟨S1024x1, .f32⟩
  | .local _ .vmem, ⟨6, _⟩ => ⟨S1024x1, .i32⟩
  | .local _ .vmem, ⟨7, _⟩ => ⟨S1024x1, .i32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩
abbrev S8192x2 : Shape := ⟨2, ![8192, 2]⟩

abbrev nBuf : Space → Nat
  | .hbm => 36
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192, .f32⟩
  | .hbm, ⟨26, _⟩ => ⟨S8192x8192, .i32⟩
  | .hbm, ⟨27, _⟩ => ⟨S_, .f32⟩
  | .hbm, ⟨28, _⟩ => ⟨S_, .i32⟩
  | .hbm, ⟨29, _⟩ => ⟨S8192, .f32⟩
  | .hbm, ⟨30, _⟩ => ⟨S8192, .i32⟩
  | .hbm, ⟨31, _⟩ => ⟨S8192, .i32⟩
  | .hbm, ⟨32, _⟩ => ⟨S8192x1, .i32⟩
  | .hbm, ⟨33, _⟩ => ⟨S8192x1, .i32⟩
  | .hbm, ⟨34, _⟩ => ⟨S8192x2, .i32⟩
  | .hbm, ⟨35, _⟩ => ⟨S8192x1, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩

abbrev nD : Nat := 1
abbrev τ : Topo := Topo.v7x

variable {F : FTy → Type} [FloatOps F]
-- ==== Proof.Finite.lean ====
/- What the precondition says: every entry of both arguments is a real number. -/
module

public import proofs.«01_k».proof.Pre_finite
public import Idealize.ShloMosaic.Lib.ReduceAll
public import Idealize.ShloMosaic.Lib.Pipeline.ValueKit

@[expose] public section

noncomputable section

namespace Cert.Pre_finite.Hand

open Cert.Pre_finite Idealize.ShloMosaic

/-- The precondition's side conditions hold. -/
instance facts : Cert.Pre_finite.Facts where
  bcast_S_S8192x128 := by decide
  reducesTo_S8192x128_S_d0_1 := by decide
  h_S_ := by decide

/-- An extended real whose absolute value is below infinity is a real number. -/
theorem real_of_abs_lt {x : EReal} (h : Ideal.cmp .olt (max x (-x)) (Ideal.ofBits .f32 0x7F800000#32) = 1#1) :
    ∃ r : ℝ, x = r := by
  rw [show Ideal.ofBits .f32 0x7F800000#32 = ⊤ from rfl] at h
  simp only [Ideal.cmp] at h
  induction x with
  | bot => simp at h
  | top => simp at h
  | coe r => exact ⟨r, rfl⟩

instance : Subsingleton S_.Idx := ⟨fun a b => funext fun d => d.elim0⟩

/-- An array whose entries' absolute values are all below infinity holds real numbers. -/
theorem reals (x : FVec Ideal S8192x128 .f32) (j : S_.Idx)
    (h : Host.reduce IntOp.andi (cmpf .olt (Host.absf x) (broadcastInDim S8192x128 ![] Facts.bcast_S_S8192x128
      (constant S_ .f32 0x7F800000#32 : FVec Ideal S_ .f32))) (constantI S_ 1 1#1) Facts.reducesTo_S8192x128_S_d0_1 Facts.h_S_ j = 1#1)
    (i : S8192x128.Idx) : ∃ r : ℝ, x i = (r : EReal) :=
  real_of_abs_lt (Host.reduce_andi_all _ _ _ _ j h i)

/-- Where the precondition holds, both arguments hold real numbers. -/
theorem finite {A B : FVec Ideal S8192x128 .f32} (h : Cert.Pre_finite.fn (F := Ideal) A B = fun _ => 1#1) :
    (∀ i, ∃ r : ℝ, A i = (r : EReal)) ∧ ∀ i, ∃ r : ℝ, B i = (r : EReal) := by
  have hj := congrFun h (Shape.Idx.first (s := S_) (by decide))
  obtain ⟨h1, h2⟩ := IntOp.andi_eq_one.1 hj
  exact ⟨reals A _ h1, reals B _ h2⟩

end Cert.Pre_finite.Hand

end
-- ==== Proof.Strips.lean ====
/- The body's walk over the 8192 columns, 128 at a time: the running minimum of the scores and the number of the
   strip it was met in, as two recursions, and the generated payloads as those recursions. -/
module

public import proofs.«01_k».proof.Proof.Gen.KernelIdeal.Frame
public import Idealize.ShloMosaic.Lib.Pipeline.ValueKit

@[expose] public section

noncomputable section

namespace Cert.KernelIdeal.Hand

open Cert.KernelIdeal Cert.KernelIdeal.Gen Idealize.ShloMosaic Idealize.SL.Sem

variable {F : FTy → Type} [FloatOps F]

/-- Columns `128 g … 128 g + 127` lie inside the row of 8192. -/
theorem rowStrip (g : Fin 64) : S1x8192.Slices ![0, 128 * g.val] S1x128 := by
  refine ⟨rfl, fun a => ?_⟩
  fin_cases a
  · show 0 + 1 ≤ 1; omega
  · show 128 * g.val + 128 ≤ 8192; omega

/-- The same columns lie inside the block of products. -/
theorem blockStrip (g : Fin 64) : S1024x8192.Slices ![0, 128 * g.val] S1024x128 := by
  refine ⟨rfl, fun a => ?_⟩
  fin_cases a
  · show 0 + 1024 ≤ 1024; omega
  · show 128 * g.val + 128 ≤ 8192; omega

/-- Strip `g` of the scores: the row of squared norms plus the block of products, on 128 columns. -/
def strip (p : FVec F S1024x8192 .f32) (b : FVec F S1x8192 .f32) (g : Fin 64) : FVec F S1024x128 .f32 :=
  addf (broadcastTo S1024x128 (extractStridedSlice S1x128 ![0, 128 * g.val] b (rowStrip g)) broadcasts_S1x128_S1024x128)
    (extractStridedSlice S1024x128 ![0, 128 * g.val] p (blockStrip g))

/-- The running minimum, lane by lane, after strips `0 … n`. -/
def lowest (p : FVec F S1024x8192 .f32) (b : FVec F S1x8192 .f32) : ℕ → FVec F S1024x128 .f32
  | 0 => strip p b 0
  | n + 1 => minimumf (strip p b (Fin.ofNat 64 (n + 1))) (lowest p b n)

/-- The strip in which that minimum was first met, lane by lane, after strips `0 … n`. -/
def holder (p : FVec F S1024x8192 .f32) (b : FVec F S1x8192 .f32) : ℕ → IVec S1024x128 32
  | 0 => broadcast S1024x128 0#32
  | n + 1 => select (cmpf .olt (strip p b (Fin.ofNat 64 (n + 1))) (lowest p b n))
      (broadcast S1024x128 (BitVec.ofNat 32 (n + 1))) (holder p b n)

/-- The minimum of each row over its 128 lanes, as a column. -/
def rowLeast (v : FVec F S1024x128 .f32) : FVec F S1024x1 .f32 :=
  shapeCast S1024x1 (multiReduction .minimumf [1] S1024 v 0x7F800000#32 reduces_S1024x128_S1024 (.inl rfl) rfl) shapeCasts_S1024_S1024x1

/-- A load of a whole block reads the block. -/
theorem loads (x0 : Vec F S1024x128 .f32) (x1 : Vec F S8192x128 .f32) (x2 : Vec F S1x8192 .f32) :
    View.ld x0 r0_0 = x0 ∧ View.ld x1 r0_1 = x1 ∧ View.ld x2 r0_2 = x2 :=
  ⟨View.ld_unit_lit _ x0 (by decide), View.ld_unit_lit _ x1 (by decide), View.ld_unit_lit _ x2 (by decide)⟩

/-- What a grid point leaves in the block of distances: the closing arithmetic on the least score of each row. -/
theorem out3_eq (x0 : FVec F S1024x128 .f32) (x1 : FVec F S8192x128 .f32) (x2 : FVec F S1x8192 .f32) :
    out0_3 x0 x1 x2 = k0_pay2 (k0_pay3 x0) (rowLeast (lowest (k0_pay4 x0 x1) (k0_pay5 x2) 63)) := by
  have hw : k0_pay167 x0 x1 x2 = rowLeast (lowest (k0_pay150 x0 x1 x2) (k0_pay151 x0 x1 x2) 63) := rfl
  unfold out0_3
  rw [hw]
  unfold k0_pay150 k0_pay151
  rw [View.canon_cons_unit_lit _ _ _ (by decide), (loads x0 x1 x2).1, (loads x0 x1 x2).2.1, (loads x0 x1 x2).2.2]

/-- What a grid point leaves in the block of columns: the least column number among the lanes that hold the row's
    least score. -/
theorem out4_eq (x0 : FVec F S1024x128 .f32) (x1 : FVec F S8192x128 .f32) (x2 : FVec F S1x8192 .f32) :
    out0_4 x0 x1 x2 = k0_pay1 (lowest (k0_pay4 x0 x1) (k0_pay5 x2) 63) (rowLeast (lowest (k0_pay4 x0 x1) (k0_pay5 x2) 63))
      (iota .tc S1024x128 32 [1] iota_S1024x128_d1_w32)
      (muli (holder (k0_pay4 x0 x1) (k0_pay5 x2) 63) (broadcast S1024x128 128#32)) := by
  have hw : out0_4 x0 x1 x2 = View.canon [⟨r0_3, k0_pay1 (lowest (k0_pay150 x0 x1 x2) (k0_pay151 x0 x1 x2) 63)
      (rowLeast (lowest (k0_pay150 x0 x1 x2) (k0_pay151 x0 x1 x2) 63)) (iota .tc S1024x128 32 [1] iota_S1024x128_d1_w32)
      (muli (holder (k0_pay150 x0 x1 x2) (k0_pay151 x0 x1 x2) 63) (broadcast S1024x128 128#32))⟩] := rfl
  rw [hw]
  unfold k0_pay150 k0_pay151
  rw [View.canon_cons_unit_lit _ _ _ (by decide), (loads x0 x1 x2).1, (loads x0 x1 x2).2.1, (loads x0 x1 x2).2.2]

end Cert.KernelIdeal.Hand

end
-- ==== Proof.FirstLeast.lean ====
/- The first place where a finite family is least, and two ways of finding it: a scan in strips of 128 that keeps, lane
   by lane, the least value and the strip it came from; and a fold over (value, place) pairs. Nothing here names a
   program. -/
module

public import Idealize.ShloMosaic.Lib.Pipeline.ValueKit

@[expose] public section

namespace Cert.FirstLeast

variable {α : Type} [LinearOrder α]

/-- `j` is the first place where `f` is least: no value is below `f j`, and no earlier place has the same one. -/
def First {n : ℕ} (f : Fin n → α) (j : Fin n) : Prop := ∀ k, f j ≤ f k ∧ (f k = f j → j ≤ k)

/-- There is one. -/
theorem exists_first {n : ℕ} [NeZero n] (f : Fin n → α) : ∃ j, First f j := by
  obtain ⟨j, -, hj⟩ := Finset.exists_min_image Finset.univ (fun k => toLex (f k, k)) ⟨0, Finset.mem_univ _⟩
  refine ⟨j, fun k => ?_⟩
  have h := hj k (Finset.mem_univ _)
  rw [Prod.Lex.toLex_le_toLex] at h
  rcases h with h | ⟨h, h'⟩
  · exact ⟨h.le, fun e => absurd e h.ne'⟩
  · exact ⟨h.le, fun _ => h'⟩

/-- There is only one. -/
theorem First.unique {n : ℕ} {f : Fin n → α} {j k : Fin n} (hj : First f j) (hk : First f k) : j = k := by
  have e : f k = f j := le_antisymm (hk j).1 (hj k).1
  exact le_antisymm ((hj k).2 e) ((hk j).2 e.symm)

/-- It depends only on how the values compare. -/
theorem First.congr {β : Type} [LinearOrder β] {n : ℕ} {f : Fin n → α} {g : Fin n → β} {j : Fin n}
    (h : ∀ k l, f k ≤ f l ↔ g k ≤ g l) (hj : First f j) : First g j := fun k =>
  ⟨(h j k).1 (hj k).1, fun e => (hj k).2 (le_antisymm ((h k j).2 e.le) ((h j k).2 e.ge))⟩

/-! ## The scan of one lane -/

/-- The least of `t 0 … t n`. -/
def low (t : ℕ → α) : ℕ → α
  | 0 => t 0
  | n + 1 => min (t (n + 1)) (low t n)

/-- The place it was first met: replaced only by a strictly smaller value. -/
def held (t : ℕ → α) : ℕ → ℕ
  | 0 => 0
  | n + 1 => if t (n + 1) < low t n then n + 1 else held t n

/-- What the scan knows after `n`: its place is one of those seen, has the least value, and is the first that does. -/
theorem scan (t : ℕ → α) (n : ℕ) :
    held t n ≤ n ∧ t (held t n) = low t n ∧ ∀ g ≤ n, low t n ≤ t g ∧ (t g = low t n → held t n ≤ g) := by
  induction n with
  | zero =>
    refine ⟨le_rfl, rfl, fun g hg => ?_⟩
    obtain rfl : g = 0 := by omega
    exact ⟨le_rfl, fun _ => le_rfl⟩
  | succ n ih =>
    obtain ⟨h1, h2, h3⟩ := ih
    by_cases hlt : t (n + 1) < low t n
    · have hl : low t (n + 1) = t (n + 1) := min_eq_left hlt.le
      have hh : held t (n + 1) = n + 1 := if_pos hlt
      rw [hl, hh]
      refine ⟨le_rfl, rfl, fun g hg => ?_⟩
      rcases Nat.lt_or_ge n g with h | h
      · obtain rfl : g = n + 1 := by omega
        exact ⟨le_rfl, fun _ => le_rfl⟩
      · have := (h3 g h).1
        exact ⟨(hlt.trans_le this).le, fun e => absurd (hlt.trans_le this) (by rw [e]; exact lt_irrefl _)⟩
    · have hl : low t (n + 1) = low t n := min_eq_right (not_lt.1 hlt)
      have hh : held t (n + 1) = held t n := if_neg hlt
      rw [hl, hh]
      refine ⟨by omega, h2, fun g hg => ?_⟩
      rcases Nat.lt_or_ge n g with h | h
      · obtain rfl : g = n + 1 := by omega
        exact ⟨not_lt.1 hlt, fun _ => by omega⟩
      · exact h3 g h

/-! ## The 128 lanes together -/

/-- Lane `l` of a family of 8192 read in strips of 128 (strip numbers taken modulo 64). -/
def lane (f : Fin 8192 → α) (l : Fin 128) (g : ℕ) : α := f ⟨128 * (g % 64) + l.val, by omega⟩

theorem lane_of_lt (f : Fin 8192 → α) (l : Fin 128) {g : ℕ} (hg : g < 64) :
    lane f l g = f ⟨128 * g + l.val, by omega⟩ := by
  unfold lane; congr 2; omega

/-- No lane ends below the least value. -/
theorem First.le_low {f : Fin 8192 → α} {j : Fin 8192} (hj : First f j) (l : Fin 128) : f j ≤ low (lane f l) 63 := by
  rw [← (scan (lane f l) 63).2.1]; exact (hj _).1

/-- A lane that ends at the least value names a place no earlier than the first. -/
theorem First.le_place {f : Fin 8192 → α} {j : Fin 8192} (hj : First f j) (l : Fin 128)
    (h : low (lane f l) 63 = f j) : j.val ≤ 128 * held (lane f l) 63 + l.val := by
  have hs := scan (lane f l) 63
  have h2 := hs.2.1
  rw [lane_of_lt f l (by have := hs.1; omega)] at h2
  exact (hj _).2 (h2.trans h)

/-- The first place's own lane ends at the least value and names a place no later. -/
theorem First.own_lane {f : Fin 8192 → α} {j : Fin 8192} (hj : First f j) :
    ∃ l : Fin 128, low (lane f l) 63 = f j ∧ 128 * held (lane f l) 63 + l.val ≤ j.val := by
  refine ⟨⟨j.val % 128, by omega⟩, ?_⟩
  have hg : lane f ⟨j.val % 128, by omega⟩ (j.val / 128) = f j := by
    rw [lane_of_lt _ _ (by omega)]; congr 1; apply Fin.ext; simp only; omega
  have hs := (scan (lane f ⟨j.val % 128, by omega⟩) 63).2.2 (j.val / 128) (by omega)
  have e : low (lane f ⟨j.val % 128, by omega⟩) 63 = f j := le_antisymm (hs.1.trans hg.le) (hj.le_low _)
  exact ⟨e, by have := hs.2 (hg.trans e.symm); simp only; omega⟩

/-- So the least over the lanes is the least value. -/
theorem First.fold_low {f : Fin 8192 → α} {j : Fin 8192} (hj : First f j) {top : α} (htop : ∀ a, a ≤ top) :
    (Finset.univ : Finset (Fin 128)).fold min top (fun l => low (lane f l) 63) = f j := by
  apply le_antisymm
  · obtain ⟨l, hl, -⟩ := hj.own_lane
    exact Finset.fold_min_le _ |>.2 (.inr ⟨l, Finset.mem_univ _, hl.le⟩)
  · exact Finset.le_fold_min _ |>.2 ⟨htop _, fun l _ => hj.le_low l⟩

/-- And the least place named by a lane that ends there, every other lane naming a place beyond the family, is the
    first. -/
theorem First.fold_place {f : Fin 8192 → α} {j : Fin 8192} (hj : First f j) (far top : ℤ) (hfar : 8192 ≤ far)
    (htop : 8192 ≤ top) :
    (Finset.univ : Finset (Fin 128)).fold min top
      (fun l => if low (lane f l) 63 = f j then ((128 * held (lane f l) 63 + l.val : ℕ) : ℤ) else far) = (j.val : ℤ) := by
  have hlt : ((j.val : ℕ) : ℤ) < 8192 := by exact_mod_cast j.isLt
  apply le_antisymm
  · obtain ⟨l, hl, hp⟩ := hj.own_lane
    refine Finset.fold_min_le _ |>.2 (.inr ⟨l, Finset.mem_univ _, ?_⟩)
    simp only [hl, if_true]
    exact_mod_cast hp
  · refine Finset.le_fold_min _ |>.2 ⟨by omega, fun l _ => ?_⟩
    split_ifs with h
    · exact_mod_cast hj.le_place l h
    · omega

/-! ## The fold over a list -/

/-- Folding a list by keeping the accumulator only where its key is strictly smaller returns one of the elements met,
    with the least key of all. -/
theorem foldl_least {γ : Type} (key : γ → α) (step : γ → γ → γ) (hstep : ∀ a b, step a b = if key a < key b then a else b)
    (l : List γ) (init : γ) :
    (l.foldl step init = init ∨ l.foldl step init ∈ l) ∧ key (l.foldl step init) ≤ key init ∧
      ∀ x ∈ l, key (l.foldl step init) ≤ key x := by
  induction l generalizing init with
  | nil => exact ⟨.inl rfl, le_rfl, fun x hx => by cases hx⟩
  | cons y l ih =>
    obtain ⟨h1, h2, h3⟩ := ih (step init y)
    rw [List.foldl_cons]
    have hy := hstep init y
    by_cases hlt : key init < key y
    · rw [if_pos hlt] at hy
      rw [hy] at h1 h2 h3 ⊢
      refine ⟨h1.imp id (List.mem_cons_of_mem _), h2, fun x hx => ?_⟩
      rcases List.mem_cons.1 hx with rfl | hx
      · exact h2.trans hlt.le
      · exact h3 x hx
    · rw [if_neg hlt] at hy
      rw [hy] at h1 h2 h3 ⊢
      refine ⟨.inr ?_, h2.trans (not_lt.1 hlt), fun x hx => ?_⟩
      · rcases h1 with h1 | h1
        · rw [h1]; exact List.mem_cons_self
        · exact List.mem_cons_of_mem _ h1
      · rcases List.mem_cons.1 hx with rfl | hx
        · exact h2
        · exact h3 x hx

/-- A small number read as a signed word is itself. -/
theorem toInt_small {n : ℕ} (hn : n < 2 ^ 31) : (BitVec.ofNat 32 n).toInt = n := by
  rw [BitVec.toInt_eq_toNat_of_lt (by rw [BitVec.toNat_ofNat]; omega), BitVec.toNat_ofNat]
  congr 1; omega

end Cert.FirstLeast

end
-- ==== Proof.Block.lean ====
/- What one block of 1024 rows computes, read at a row: the least score and the first column that has it. -/
module

public import proofs.«01_k».proof.Proof.Strips
public import proofs.«01_k».proof.Proof.FirstLeast
public import Idealize.ShloMosaic.Lib.Pointwise

@[expose] public section

noncomputable section

namespace Cert.KernelIdeal.Hand

open Cert.KernelIdeal Cert.KernelIdeal.Gen Idealize.ShloMosaic Idealize.SL.Sem Cert.FirstLeast

/-- The score of row `r` against column `j`: the column's squared norm plus the row times -2 against the column. -/
def score (x0 : Vec Ideal S1024x128 .f32) (x1 : Vec Ideal S8192x128 .f32) (x2 : Vec Ideal S1x8192 .f32) (r : Fin 1024) (j : Fin 8192) : EReal :=
  x2 (ix2 0 j) + ∑ k : Fin 128, x0 (ix2 r k) * Ideal.ofBits .f32 0xC0000000#32 * x1 (ix2 j k)

/-- Strip `g` of the scores, at lane `l`, is the score at column `128 g + l`. -/
theorem strip_apply (x0 : Vec Ideal S1024x128 .f32) (x1 : Vec Ideal S8192x128 .f32) (x2 : Vec Ideal S1x8192 .f32) (g : Fin 64)
    (r : Fin 1024) (l : Fin 128) :
    strip (k0_pay4 x0 x1) (k0_pay5 x2) g (ix2 r l) = lane (score x0 x1 x2 r) l g.val := by
  rw [lane_of_lt _ _ g.isLt]
  pointwise [strip, k0_pay4, k0_pay5, score]

/-- A strip number only counts modulo 64. -/
theorem lane_mod {α : Type} (f : Fin 8192 → α) (l : Fin 128) (g : ℕ) : lane f l (g % 64) = lane f l g := by
  unfold lane; simp only [Nat.mod_mod]

/-- The running minimum, at a lane, is the scan's. -/
theorem lowest_apply (x0 : Vec Ideal S1024x128 .f32) (x1 : Vec Ideal S8192x128 .f32) (x2 : Vec Ideal S1x8192 .f32)
    (r : Fin 1024) (l : Fin 128) (n : ℕ) :
    lowest (k0_pay4 x0 x1) (k0_pay5 x2) n (ix2 r l) = low (lane (score x0 x1 x2 r) l) n := by
  induction n with
  | zero => exact strip_apply x0 x1 x2 0 r l
  | succ n ih =>
    show min (strip (k0_pay4 x0 x1) (k0_pay5 x2) (Fin.ofNat 64 (n + 1)) (ix2 r l)) (lowest (k0_pay4 x0 x1) (k0_pay5 x2) n (ix2 r l)) = _
    rw [ih, strip_apply, Fin.val_ofNat, lane_mod]
    rfl

/-- The strip it was met in, at a lane, is the scan's. -/
theorem holder_apply (x0 : Vec Ideal S1024x128 .f32) (x1 : Vec Ideal S8192x128 .f32) (x2 : Vec Ideal S1x8192 .f32)
    (r : Fin 1024) (l : Fin 128) (n : ℕ) :
    holder (k0_pay4 x0 x1) (k0_pay5 x2) n (ix2 r l) = BitVec.ofNat 32 (held (lane (score x0 x1 x2 r) l) n) := by
  induction n with
  | zero => rfl
  | succ n ih =>
    show Scalar.select (Ideal.cmp .olt (strip (k0_pay4 x0 x1) (k0_pay5 x2) (Fin.ofNat 64 (n + 1)) (ix2 r l))
      (lowest (k0_pay4 x0 x1) (k0_pay5 x2) n (ix2 r l))) (BitVec.ofNat 32 (n + 1)) (holder (k0_pay4 x0 x1) (k0_pay5 x2) n (ix2 r l)) = _
    rw [ih, strip_apply, lowest_apply, Fin.val_ofNat, lane_mod]
    by_cases h : lane (score x0 x1 x2 r) l (n + 1) < low (lane (score x0 x1 x2 r) l) n
    · simp [Scalar.select, Ideal.cmp, held, h]
    · simp [Scalar.select, Ideal.cmp, held, h]

/-- A row's minimum over its lanes. -/
theorem rowLeast_apply (v : FVec Ideal S1024x128 .f32) (r : Fin 1024) :
    rowLeast v (ix2 r 0) = (Finset.univ : Finset (Fin 128)).fold min ⊤ fun l => v (ix2 r l) := by
  pointwise [rowLeast]
  rfl

/-- So a row's minimum is its least score. -/
theorem least_apply (x0 : Vec Ideal S1024x128 .f32) (x1 : Vec Ideal S8192x128 .f32) (x2 : Vec Ideal S1x8192 .f32)
    (r : Fin 1024) {j : Fin 8192} (hj : First (score x0 x1 x2 r) j) :
    rowLeast (lowest (k0_pay4 x0 x1) (k0_pay5 x2) 63) (ix2 r 0) = score x0 x1 x2 r j := by
  rw [rowLeast_apply]
  simp only [lowest_apply]
  exact hj.fold_low fun _ => le_top

theorem pay3_apply (x0 : Vec Ideal S1024x128 .f32) (r : Fin 1024) :
    k0_pay3 x0 (ix2 r 0) = ∑ k : Fin 128, x0 (ix2 r k) * x0 (ix2 r k) := by
  pointwise [k0_pay3]

theorem pay2_apply (a b : FVec Ideal S1024x1 .f32) (r : Fin 1024) :
    k0_pay2 a b (ix2 r 0) = Ideal.sqrt (max (a (ix2 r 0) + b (ix2 r 0)) 0) := by
  pointwise [k0_pay2]

/-- The column index: the least, over the lanes whose value is the row's, of strip number times 128 plus lane. -/
theorem pay1_apply (v : FVec Ideal S1024x128 .f32) (b : FVec Ideal S1024x1 .f32) (l h : IVec S1024x128 32) (r : Fin 1024) :
    k0_pay1 v b l h (ix2 r 0) = (Finset.univ : Finset (Fin 128)).fold IntOp.minsi 2147483647#32
      fun x => if v (ix2 r x) = b (ix2 r 0) then IntOp.addi (h (ix2 r x)) (l (ix2 r x)) else 1073741824#32 := by
  pointwise [k0_pay1]

/-- A signed minimum read as an integer. -/
theorem minsi_toInt (x y : BitVec 32) : (IntOp.minsi x y).toInt = min x.toInt y.toInt := by
  unfold IntOp.minsi
  rw [BitVec.slt_eq_decide]
  by_cases h : x.toInt < y.toInt
  · simp [h, h.le]
  · simp [h, not_lt.1 h]

/-- The first result of a block, at a row. -/
theorem out3_apply (x0 : Vec Ideal S1024x128 .f32) (x1 : Vec Ideal S8192x128 .f32) (x2 : Vec Ideal S1x8192 .f32)
    (r : Fin 1024) {j : Fin 8192} (hj : First (score x0 x1 x2 r) j) :
    out0_3 x0 x1 x2 (ix2 r 0)
      = Ideal.sqrt (max ((∑ k : Fin 128, x0 (ix2 r k) * x0 (ix2 r k)) + score x0 x1 x2 r j) 0) := by
  rw [out3_eq, pay2_apply, pay3_apply, least_apply x0 x1 x2 r hj]

/-- The second result of a block, at a row: the first column with the least score. -/
theorem out4_apply (x0 : Vec Ideal S1024x128 .f32) (x1 : Vec Ideal S8192x128 .f32) (x2 : Vec Ideal S1x8192 .f32)
    (r : Fin 1024) {j : Fin 8192} (hj : First (score x0 x1 x2 r) j) :
    out0_4 x0 x1 x2 (ix2 r 0) = BitVec.ofNat 32 j.val := by
  rw [out4_eq, pay1_apply, least_apply x0 x1 x2 r hj]
  apply BitVec.eq_of_toInt_eq
  rw [toInt_small (by omega), ← Finset.fold_hom (op' := min) minsi_toInt, ← hj.fold_place 1073741824 2147483647 (by omega) (by omega)]
  refine Finset.fold_congr fun l _ => ?_
  rw [lowest_apply]
  have hs := (scan (lane (score x0 x1 x2 r) l) 63).1
  have e : IntOp.addi ((muli (holder (k0_pay4 x0 x1) (k0_pay5 x2) 63) (broadcast S1024x128 128#32)) (ix2 r l))
      ((iota .tc S1024x128 32 [1] iota_S1024x128_d1_w32) (ix2 r l))
      = BitVec.ofNat 32 (128 * held (lane (score x0 x1 x2 r) l) 63 + l.val) := by
    show holder (k0_pay4 x0 x1) (k0_pay5 x2) 63 (ix2 r l) * 128#32 + BitVec.ofNat 32 (0 * 128 + l.val) = _
    rw [holder_apply, ← BitVec.ofNat_mul, ← BitVec.ofNat_add]
    congr 1; omega
  rw [e]
  split_ifs
  · exact toInt_small (by omega)
  · rfl

end Cert.KernelIdeal.Hand

end
-- ==== Proof.Arrays.lean ====
/- What the two arrays of the launch hold after the run, row by row, as functions of the two arguments. -/
module

public import proofs.«01_k».proof.Proof.Block

@[expose] public section

noncomputable section

namespace Cert.KernelIdeal.Hand

open Cert.KernelIdeal Cert.KernelIdeal.Gen Idealize.ShloMosaic Idealize.ShloMosaic.TcCoe Idealize.SL.Sem Cert.FirstLeast
open Idealize.ShloMosaic.Pipeline (Dat)

/-- The score of row `i` of `A` against row `j` of `B`: the squared norm of the latter plus -2 times the product. -/
def rowScore (A B : Vec Ideal S8192x128 .f32) (i j : Fin 8192) : EReal :=
  (∑ k : Fin 128, B (ix2 j k) * B (ix2 j k)) + ∑ k : Fin 128, A (ix2 i k) * Ideal.ofBits .f32 0xC0000000#32 * B (ix2 j k)

/-- The first row of `B` with the least score. -/
def best (A B : Vec Ideal S8192x128 .f32) (i : Fin 8192) : Fin 8192 := (exists_first (rowScore A B i)).choose

theorem best_first (A B : Vec Ideal S8192x128 .f32) (i : Fin 8192) : First (rowScore A B i) (best A B i) :=
  (exists_first (rowScore A B i)).choose_spec

/-- The distances the kernel leaves. -/
def dists (A B : Vec Ideal S8192x128 .f32) : Vec Ideal S8192x1 .f32 := fun y =>
  Ideal.sqrt (max ((∑ k : Fin 128, A (ix2 (y 0) k) * A (ix2 (y 0) k)) + rowScore A B (y 0) (best A B (y 0))) 0)

/-- The indexes the kernel leaves. -/
def places (A B : Vec Ideal S8192x128 .f32) : Vec Ideal S8192x1 .i32 := fun y => BitVec.ofNat 32 (best A B (y 0)).val

variable (m : (ℓ : Loc nD τ sig) → Buf (Elt Ideal) ℓ)

/-- The two arguments as launched, and the launch's third array as the launch finds it. -/
abbrev argA (c : Dev nD) : Vec Ideal S8192x128 .f32 := m ((c : Thread nD τ).loc main_arg0)
abbrev argB (c : Dev nD) : Vec Ideal S8192x128 .f32 := m ((c : Thread nD τ).loc main_arg1)
abbrev norms (c : Dev nD) : Vec Ideal S1x8192 .f32 := V m c main_v3

/-- Row `r` of block `t` is row `1024 t + r`. -/
abbrev rowAt (t : Fin cfg0.N) (r : Fin 1024) : Fin 8192 :=
  ⟨1024 * t.val + r.val, by have : t.val < 8 := t.isLt; omega⟩

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)

/-- The row of squared norms, as the lines before the launch compute it. -/
def normRow (B : FVec Ideal S8192x128 .f32) : FVec Ideal S1x8192 .f32 :=
  transpose S1x8192 [1, 0] (broadcastInDim S8192x1 ![0] bcast_S8192_S8192x1_0
    (Host.reduceAdd (mulf B B) (constant S_ .f32 0x00000000#32 : FVec Ideal S_ .f32) reducesTo_S8192x128_S8192_d1 h_S_))
    transposes_S8192x1_S1x8192_1_0

theorem normRow_apply (B : FVec Ideal S8192x128 .f32) (j : Fin 8192) :
    normRow B (ix2 0 j) = ∑ k : Fin 128, (B (ix2 j k) * B (ix2 j k) : EReal) := by
  pointwise [normRow]
  try simp

/-- Before the launch the third array is the row of squared norms of the second argument. -/
theorem norms_eq (c : Dev nD) : norms m c = normRow (argB m c) := by
  show StableHlo.after (List.flatten [hostOps0]) (fun b => m (c, b)) (Proc.devRef .tc main_v3) = _
  simp only [hostOps0, List.flatten_cons, List.flatten_nil, List.append_nil]
  after_results_simp <;> rfl

/-- Block `t` of the first argument. -/
theorem block0 (c : Dev nD) (t : Fin cfg0.N) (r : Fin 1024) (k : Fin 128) :
    (iblk m c 0 t : Vec Ideal S1024x128 .f32) (ix2 r k)
      = argA m c (ix2 (rowAt t r) k) := by
  rw [show argA m c = V m c main_arg0 from (V_main_arg0 m c).symm]
  blk_point [iblk, index0 t]

/-- The second argument, whole. -/
theorem block1 (c : Dev nD) (t : Fin cfg0.N) (j : Fin 8192) (k : Fin 128) :
    (iblk m c 1 t : Vec Ideal S8192x128 .f32) (ix2 j k)
      = argB m c (ix2 j k) := by
  rw [show argB m c = V m c main_arg1 from (V_main_arg1 m c).symm]
  blk_point [iblk, index1 t]

/-- The row of norms, whole. -/
theorem block2 (c : Dev nD) (t : Fin cfg0.N) (j : Fin 8192) :
    (iblk m c 2 t : Vec Ideal S1x8192 .f32) (ix2 0 j) = norms m c (ix2 0 j) := by
  have h : ∀ x : Vec Ideal S1x8192 .f32, (((cfg0.win 2).blk t).view.read (Elt Ideal) x : Vec Ideal S1x8192 .f32) (ix2 0 j) = x (ix2 0 j) := by
    intro x
    blk_point [index2 t]
  exact h _

/-- The scores of a block's row are the scores of the array's row. -/
theorem score_block (c : Dev nD) (t : Fin cfg0.N) (r : Fin 1024) :
    score (iblk m c 0 t) (iblk m c 1 t) (iblk m c 2 t) r = rowScore (argA m c) (argB m c) (rowAt t r) := by
  funext j
  unfold score rowScore
  rw [block2, norms_eq, normRow_apply]
  simp only [block0, block1]

/-- A column of a block is read at its row. -/
theorem column (y : S1024x1.Idx) : ∃ r : Fin 1024, y = ix2 r 0 := by
  refine ⟨y 0, ?_⟩
  funext a
  match a with
  | ⟨0, _⟩ => rfl
  | ⟨1, _⟩ => exact Subsingleton.elim (α := Fin 1) _ _

theorem row3 (t : Fin cfg0.N) (y : S1024x1.Idx) : (win0_3.blk t).view.emb y 0 = rowAt t (y 0) := by
  apply Fin.ext
  blk_simp [index3 t]
  show t.val * 1024 + (y 0).val = 1024 * t.val + (y 0).val
  omega

theorem row4 (t : Fin cfg0.N) (y : S1024x1.Idx) : (win0_4.blk t).view.emb y 0 = rowAt t (y 0) := by
  apply Fin.ext
  blk_simp [index4 t]
  show t.val * 1024 + (y 0).val = 1024 * t.val + (y 0).val
  omega

/-- The best column of an array's row, as the first least score of a block's row. -/
theorem first_block (c : Dev nD) (t : Fin cfg0.N) (r : Fin 1024) :
    First (score (iblk m c 0 t) (iblk m c 1 t) (iblk m c 2 t) r) (best (argA m c) (argB m c) (rowAt t r)) := by
  rw [score_block]; exact best_first _ _ _

/-- What point `t` leaves in the first array's block. -/
theorem left3 (c : Dev nD) (t : Fin cfg0.N) (y : S1024x1.Idx) :
    out0_3 (iblk m c 0 t) (iblk m c 1 t) (iblk m c 2 t) y
      = Ideal.sqrt (max ((∑ k : Fin 128, argA m c (ix2 (rowAt t (y 0)) k) * argA m c (ix2 (rowAt t (y 0)) k))
          + rowScore (argA m c) (argB m c) (rowAt t (y 0)) (best (argA m c) (argB m c) (rowAt t (y 0)))) 0) := by
  obtain ⟨r, rfl⟩ := column y
  rw [out3_apply _ _ _ r (first_block m c t r), score_block]
  simp only [block0, ix2_0]

/-- What point `t` leaves in the second array's block. -/
theorem left4 (c : Dev nD) (t : Fin cfg0.N) (y : S1024x1.Idx) :
    out0_4 (iblk m c 0 t) (iblk m c 1 t) (iblk m c 2 t) y
      = BitVec.ofNat 32 (best (argA m c) (argB m c) (rowAt t (y 0))).val := by
  obtain ⟨r, rfl⟩ := column y
  exact out4_apply _ _ _ r (first_block m c t r)

/-- After the run the first array holds the distances. -/
theorem final3 (c : Dev nD) : (dats m 0 c).arrAt 3 cfg0.N = dists (argA m c) (argB m c) := by
  refine (dats m 0 c).arrAt_eq_of_covers 3 _ (by decide +kernel) fun t _ y => ?_
  blk_simp
  rw [after0_3]
  refine (left3 m c t y).trans ?_
  unfold dists
  rw [row3 t y]

/-- After the run the second array holds the indexes. -/
theorem final4 (c : Dev nD) : (dats m 0 c).arrAt 4 cfg0.N = places (argA m c) (argB m c) := by
  refine (dats m 0 c).arrAt_eq_of_covers 4 _ (by decide +kernel) fun t _ y => ?_
  blk_simp
  rw [after0_4]
  refine (left4 m c t y).trans ?_
  unfold places
  rw [row4 t y]

/-- Two columns side by side. -/
def beside (a b : Vec Ideal S8192x1 .i32) : Vec Ideal S8192x2 .i32 :=
  concatenate S8192x2 1 [⟨S8192x1, a⟩, ⟨S8192x1, b⟩] concatenates_S8192x1_S8192x1_S8192x2_d1

/-- The row numbers beside a column of indexes, as the lines after the launch pair them. -/
def paired (p : Vec Ideal S8192x1 .i32) : Vec Ideal S8192x2 .i32 :=
  beside (shapeCast S8192x1 (iotaInDim S8192 32 0) shapeCasts_S8192_S8192x1) p

/-- After the lines that follow the launch, the second result pairs row numbers with what the second array holds. -/
theorem tail_eq (c : Dev nD) :
    Pipeline.afterTail₀ cfgs (dats m) 0 (V0 m) [hostOps1] c main_v7 = paired (places (argA m c) (argB m c)) := by
  have h4 : Pipeline.withArrays (cfgs 0).spec c (V0 m c) (fun w => (dats m 0 c).arrAt w (cfgs 0).N) (Proc.devRef .tc main_v4_1)
      = places (argA m c) (argB m c) :=
    (Pipeline.withArrays_arr (cfgs 0).spec launch0.win.arr_inj c (V0 m c) (fun w => (dats m 0 c).arrAt w (cfgs 0).N) 4).trans (final4 m c)
  unfold Pipeline.afterTail₀
  simp only [hostOps1, List.flatten_cons, List.flatten_nil, List.append_nil]
  rw [StableHlo.after_cons, StableHlo.after_cons, StableHlo.after_cons, StableHlo.after_nil]
  rw [StableHlo.binary_result]
  refine congrArg₂ beside ?_ ?_
  · after_results_simp <;> rfl
  · after_results_simp
    exact h4

/-- The run: the two results as functions of the two arguments, which end as they began. -/
theorem run (ρ : Dev nD → PrngReg) :
    θ_run defs (onTc (τ := τ) (main (F := Ideal))) ⟨m, fun _ => 0, ρ⟩ fun r => ∀ c : Dev nD,
      r.2.mem ((c : Thread nD τ).loc main_v4_0) = dists (argA m c) (argB m c)
      ∧ r.2.mem ((c : Thread nD τ).loc main_v7) = paired (places (argA m c) (argB m c))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 3).trans (final3 m c), ((h c).2 main_v7 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Hand

end
-- ==== Proof.RefRun.lean ====
/- What the reference leaves, as array terms of its two arguments, and that its counters end at zero. -/
module

public import proofs.«01_k».proof.Proof.Gen.ReferenceIdeal
public import Idealize.ShloMosaic.Lib.Claim
public import Idealize.ShloMosaic.Lib.Pipeline.ValueKit
public import Idealize.ShloMosaic.Lib.Quiescent
public import Idealize.ShloMosaic.Lib.StableHlo.RunHlo

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

/-- The squared norms of the rows, one column. -/
def sq (A : FVec Ideal S8192x128 .f32) : FVec Ideal S8192x1 .f32 :=
  broadcastInDim S8192x1 ![0] bcast_S8192_S8192x1_0
    (Host.reduceAdd (mulf A A) (constant S_ .f32 0x00000000#32 : FVec Ideal S_ .f32) reducesTo_S8192x128_S8192_d1 h_S_)

/-- All the products of a row of `A` with a row of `B`, doubled. -/
def twice (A B : FVec Ideal S8192x128 .f32) : FVec Ideal S8192x8192 .f32 :=
  mulf (broadcastInDim S8192x8192 ![] bcast_S_S8192x8192 (constant S_ .f32 0x40000000#32 : FVec Ideal S_ .f32))
    (Host.dotGeneral dot_S8192x128_S128x8192_S8192x8192_1_0_0_1_n_n none A
      (transpose S128x8192 [1, 0] B transposes_S8192x128_S128x8192_1_0))

/-- The distances of every row of `A` from every row of `B`. -/
def far (A B : FVec Ideal S8192x128 .f32) : FVec Ideal S8192x8192 .f32 :=
  Host.sqrt (maximumf
    (subf
      (addf (broadcastInDim S8192x8192 ![0, 1] bcast_S8192x1_S8192x8192_0_1 (sq A))
        (broadcastInDim S8192x8192 ![0, 1] bcast_S1x8192_S8192x8192_0_1
          (transpose S1x8192 [1, 0] (sq B) transposes_S8192x1_S1x8192_1_0)))
      (twice A B))
    (broadcastInDim S8192x8192 ![] bcast_S_S8192x8192 (constant S_ .f32 0x00000000#32 : FVec Ideal S_ .f32)))

/-- The least entry of each row. -/
def least (x : FVec Ideal S8192x8192 .f32) : FVec Ideal S8192 .f32 :=
  Host.reduce FloatOps.minimumf x (constant S_ .f32 0x7F800000#32 : FVec Ideal S_ .f32) reducesTo_S8192x8192_S8192_d1 h_S_

/-- The column of each row's least entry. -/
def place (x : FVec Ideal S8192x8192 .f32) : IVec S8192 32 := fun j =>
  (Host.argReduce reducer_argmin_f32_i32 x (iotaInDim S8192x8192 32 1) (constant S_ .f32 0x7F800000#32 : FVec Ideal S_ .f32)
    (constantI S_ 32 0#32) reducesTo_S8192x8192_S8192_d1 h_S_ j).2

/-- Two columns side by side. -/
def joined (a b : (⟨S8192x1, .i32⟩ : BufTy).Contents (Elt Ideal)) : (⟨S8192x2, .i32⟩ : BufTy).Contents (Elt Ideal) :=
  concatenate S8192x2 1 [⟨S8192x1, a⟩, ⟨S8192x1, b⟩] concatenates_S8192x1_S8192x1_S8192x2_d1

variable (m : (ℓ : Loc nD τ sig) → Buf (Elt Ideal) ℓ)

/-- The two arguments as launched. -/
abbrev argA (c : Dev nD) : FVec Ideal S8192x128 .f32 := m ((c : Thread nD τ).loc main_arg0)
abbrev argB (c : Dev nD) : FVec Ideal S8192x128 .f32 := m ((c : Thread nD τ).loc main_arg1)

/-- The matrix of distances, written out. -/
theorem far_read (c : Dev nD) :
    (Host.sqrt (maximumf
      (subf
        (addf
          (broadcastInDim S8192x8192 ![0, 1] bcast_S8192x1_S8192x8192_0_1 (broadcastInDim S8192x1 ![0] bcast_S8192_S8192x1_0
            (Host.reduceAdd (mulf (argA m c) (argA m c)) (constant S_ .f32 0x00000000#32 : FVec Ideal S_ .f32)
              reducesTo_S8192x128_S8192_d1 h_S_)))
          (broadcastInDim S8192x8192 ![0, 1] bcast_S1x8192_S8192x8192_0_1 (transpose S1x8192 [1, 0] (sq (argB m c))
            transposes_S8192x1_S1x8192_1_0)))
        (twice (argA m c) (argB m c)))
      (broadcastInDim S8192x8192 ![] bcast_S_S8192x8192 (constant S_ .f32 0x00000000#32 : FVec Ideal S_ .f32)))
        : FVec Ideal S8192x8192 .f32)
      = far (argA m c) (argB m c) := rfl

/-- The call of the function that finds the columns reads and writes its buffers as they stand. -/
theorem toBuf_place (h : main_v19.ty = ⟨S8192, .i32⟩) (h') (h'') (v : IVec S8192 32) :
    (TRef.of (T := ⟨S8192, .i32⟩) main_v19 h h' h'').toBuf (Val := Elt Ideal) v = v := rfl

theorem ofBuf_far (h : main_v17.ty = ⟨S8192x8192, .f32⟩) (h') (h'') (v : FVec Ideal S8192x8192 .f32) :
    (TRef.of (T := ⟨S8192x8192, .f32⟩) main_v17 h h' h'').ofBuf (Val := Elt Ideal) v = v := rfl

set_option maxHeartbeats 2000000 in
/-- The run: the two results as functions of the two arguments, which end as they began. -/
theorem run (ρ : Dev nD → PrngReg) :
    θ_run defs (onTc (τ := τ) (main (F := Ideal))) ⟨m, fun _ => 0, ρ⟩ fun r => ∀ c : Dev nD,
      r.2.mem ((c : Thread nD τ).loc main_v24) = shapeCast S8192x1 (least (far (argA m c) (argB m c))) shapeCasts_S8192_S8192x1
      ∧ r.2.mem ((c : Thread nD τ).loc main_v23)
          = joined (shapeCast S8192x1 (iotaInDim S8192 32 0) shapeCasts_S8192_S8192x1)
              (shapeCast S8192x1 (place (far (argA m c) (argB m c))) shapeCasts_S8192_S8192x1)
      ∧ r.2.mem ((c : Thread nD τ).loc main_arg0) = m ((c : Thread nD τ).loc main_arg0)
      ∧ r.2.mem ((c : Thread nD τ).loc main_arg1) = m ((c : Thread nD τ).loc main_arg1) := by
  refine (θ_run defs _ _).mono (fun _ h c => ⟨(h c main_v24).trans ?_, (h c main_v23).trans ?_, (h c main_arg0).trans ?_,
    (h c main_arg1).trans ?_⟩) (run_hlo _ _ (by hlo_seq) (by decide) (by decide) (by simp)
      (by intro _ h; (repeat (cases h with | head => rfl | tail _ h => ?_)); exact nomatch h) m ρ)
  · after_results_simp <;> rfl
  · simp only [after_cons, after_nil]
    rw [reshape_result_ne (h := (by decide : main_v23 ≠ main_v24)), binary_result]
    refine congrArg₂ joined ?_ ?_
    · after_results_simp
      rfl
    · after_results_simp
      refine congrArg (fun p => shapeCast S8192x1 p shapeCasts_S8192_S8192x1) ((toBuf_place _ _ _ _).trans ?_)
      rw [TRef.ofBuf_toBuf, TRef.ofBuf_toBuf, TRef.ofBuf_toBuf, ofBuf_far]
      exact congrArg place (far_read m c)
  · after_results_simp <;> rfl
  · after_results_simp <;> rfl

/-- No counter exists, so all end at zero; the arguments end as they began. -/
theorem frame (ρ : Dev nD → PrngReg) :
    θ_run defs (onTc (τ := τ) (main (F := Ideal))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1))
      ∧ r.2.sem = fun _ => 0 :=
  (θ_run defs _ _).mono (fun _ h => ⟨fun c => (h c).2.2, sem_eq_zero_of_no_sems (by decide) _⟩) (run m ρ)

end Cert.ReferenceIdeal.Hand

end
-- ==== Proof.Reference.lean ====
/- What the reference computes, entry by entry: the distances, the least one of a row, and the column it stands in. -/
module

public import proofs.«01_k».proof.Proof.RefRun
public import proofs.«01_k».proof.Proof.FirstLeast
public import Idealize.ShloMosaic.Lib.Pointwise

@[expose] public section

noncomputable section

namespace Cert.ReferenceIdeal.Hand

open Cert.ReferenceIdeal Cert.ReferenceIdeal.Gen Idealize.ShloMosaic Idealize.ShloMosaic.TcCoe Cert.FirstLeast

/-- The distance of row `i` of `A` from row `j` of `B`. -/
theorem far_apply (A B : FVec Ideal S8192x128 .f32) (i j : Fin 8192) :
    far A B (ix2 i j) = Ideal.sqrt (max (((∑ k : Fin 128, A (ix2 i k) * A (ix2 i k) : EReal) + ∑ k : Fin 128, B (ix2 j k) * B (ix2 j k))
      - Ideal.ofBits .f32 0x40000000#32 * ∑ k : Fin 128, A (ix2 i k) * B (ix2 j k)) 0) := by
  pointwise [far, sq, twice]
  try simp

/-- The least entry of row `i` is the one at the row's first least column. -/
theorem least_apply (x : FVec Ideal S8192x8192 .f32) (i : Fin 8192) {j : Fin 8192}
    (hj : First (fun k => (x (ix2 i k) : EReal)) j) : least x (ix1 i) = x (ix2 i j) := by
  have h : least x (ix1 i) = Finset.univ.fold min ⊤ fun k : Fin 8192 => (x (ix2 i k) : EReal) := by
    pointwise [least]
    rfl
  rw [h]
  refine le_antisymm ((Finset.fold_min_le _).2 (.inr ⟨j, Finset.mem_univ _, le_rfl⟩)) ?_
  exact (Finset.le_fold_min _).2 ⟨le_top, fun k _ => (hj k).1⟩

/-- A pair of a value and a column, ordered by the value and then by the column. -/
def key (p : EReal × BitVec 32) : EReal ×ₗ ℤ := toLex (p.1, p.2.toInt)

/-- The order, spelt out. -/
theorem key_lt (a b : EReal × BitVec 32) : key a < key b ↔ a.1 < b.1 ∨ (a.1 = b.1 ∧ a.2.toInt < b.2.toInt) := by
  unfold key; rw [Prod.Lex.toLex_lt_toLex]

/-- The reference's comparison keeps the pair that comes first in that order. -/
theorem keeps (a b : EReal × BitVec 32) :
    reducer_argmin_f32_i32 (F := Ideal) a b = if key a < key b then a else b := by
  obtain ⟨a, n⟩ := a
  obtain ⟨b, k⟩ := b
  simp only [key_lt, reducer_argmin_f32_i32, FloatOps.cmpf, Ideal.cmp, IntOp.ori, IntOp.andi, IntOp.cmpi, Scalar.select, BitVec.slt_eq_decide]
  rcases lt_trichotomy a b with h | h | h
  · have h1 : ∀ c : BitVec 1, 1#1 ||| c = 1#1 := by decide
    simp [h, h1]
  · subst h
    by_cases hk : n.toInt < k.toInt <;> simp [hk]
  · simp [h.not_gt, h.ne']

/-- The pairs a reduction of two arrays folds over: those at the indexes that reduce to the given one. -/
theorem mem_fiber {s t : Shape} {axes : List (Fin s.rank)} {α β : Type} (x : s.Idx → α) (y : s.Idx → β) (h : s.ReducesTo axes t)
    (j : t.Idx) (p : α × β) : p ∈ Host.argReduceFiber x y h j ↔ ∃ q, h.drop q = j ∧ p = (x q, y q) := by
  unfold Host.argReduceFiber
  simp only [List.mem_map, List.mem_filter, List.mem_finRange, true_and, decide_eq_true_eq]
  constructor
  · rintro ⟨n, hn, rfl⟩
    exact ⟨_, hn, rfl⟩
  · rintro ⟨q, hq, rfl⟩
    exact ⟨s.rowMajor q, by rw [Equiv.symm_apply_apply]; exact hq, by rw [Equiv.symm_apply_apply]⟩

/-- The pairs the reference folds over in row `i`: each column's value with the column. -/
theorem mem_row (x : FVec Ideal S8192x8192 .f32) (i : Fin 8192) (p : EReal × BitVec 32) :
    p ∈ Host.argReduceFiber (α := EReal) x (iotaInDim S8192x8192 32 1) reducesTo_S8192x8192_S8192_d1 (ix1 i)
      ↔ ∃ k : Fin 8192, p = (x (ix2 i k), BitVec.ofNat 32 k.val) := by
  have hd : ∀ q : S8192x8192.Idx, reducesTo_S8192x8192_S8192_d1.drop q = ix1 i ↔ q 0 = i := fun q => by
    have hv : (reducesTo_S8192x8192_S8192_d1.drop q 0 : ℕ) = q 0 := Shape.ReducesTo.drop_apply_val reducesTo_S8192x8192_S8192_d1 q 0
    refine ⟨fun h => Fin.ext ?_, fun h => ?_⟩
    · rw [← hv, h]; rfl
    · rw [eq_ix1 (n0 := 8192) (reducesTo_S8192x8192_S8192_d1.drop q)]
      exact congrArg ix1 (Fin.ext (hv.trans (congrArg Fin.val h)))
  rw [mem_fiber]
  constructor
  · rintro ⟨q, hq, rfl⟩
    rw [hd] at hq
    exact ⟨q 1, by rw [← hq, ix2_eta (n0 := 8192) (n1 := 8192) q]; rfl⟩
  · rintro ⟨k, rfl⟩
    exact ⟨ix2 i k, (hd _).2 rfl, rfl⟩

/-- The second results of a reduction of two arrays. -/
def seconds {s t u : Shape} {axes : List (Fin s.rank)} (f : EReal × BitVec 32 → EReal × BitVec 32 → EReal × BitVec 32)
    (x : FVec Ideal s .f32) (y : IVec s 32) (a : FVec Ideal u .f32) (b : IVec u 32) (h : s.ReducesTo axes t) (hu : 0 < u.numel) :
    IVec t 32 := fun j => (Host.argReduce (F := Ideal) (φ := .f32) f x y a b h hu j).2

/-- A reduction of two arrays, at the ideal instance, is the fold over those pairs. -/
theorem seconds_fold {s t u : Shape} {axes : List (Fin s.rank)} (f : EReal × BitVec 32 → EReal × BitVec 32 → EReal × BitVec 32)
    (x : FVec Ideal s .f32) (y : IVec s 32) (a : FVec Ideal u .f32) (b : IVec u 32) (h : s.ReducesTo axes t) (hu : 0 < u.numel)
    (j : t.Idx) (v : EReal × BitVec 32) (hv : (a (Shape.Idx.first hu), b (Shape.Idx.first hu)) = v) :
    seconds f x y a b h hu j = ((Host.argReduceFiber (α := EReal) x y h j).foldl f v).2 := by
  subst hv
  exact congrArg Prod.snd ((congrFun (Ideal.argReduce_eq_reduce2 f x y a b h hu) j).trans (Host.reduce2_eq_foldl_fiber ..))

/-- The columns the reference finds are such second results. -/
theorem place_seconds (x : FVec Ideal S8192x8192 .f32) :
    place x = seconds (reducer_argmin_f32_i32 (F := Ideal)) x (iotaInDim S8192x8192 32 1)
      (constant S_ .f32 0x7F800000#32 : FVec Ideal S_ .f32) (constantI S_ 32 0#32) reducesTo_S8192x8192_S8192_d1 h_S_ := rfl

/-- The column the reference finds in row `i`, as a fold over the row's pairs. -/
theorem place_fold (x : FVec Ideal S8192x8192 .f32) (i : Fin 8192) :
    place x (ix1 i) = ((Host.argReduceFiber (α := EReal) x (iotaInDim S8192x8192 32 1) reducesTo_S8192x8192_S8192_d1 (ix1 i)).foldl
      (reducer_argmin_f32_i32 (F := Ideal)) (⊤, 0#32)).2 :=
  (congrFun (place_seconds x) (ix1 i)).trans (seconds_fold _ _ _ _ _ _ _ _ _ rfl)

/-- The column the reference finds in row `i` is the row's first least column. -/
theorem place_apply (x : FVec Ideal S8192x8192 .f32) (i : Fin 8192) {j : Fin 8192}
    (hj : First (fun k => (x (ix2 i k) : EReal)) j) : place x (ix1 i) = BitVec.ofNat 32 j.val := by
  rw [place_fold]
  obtain ⟨h1, -, h3⟩ := foldl_least key (reducer_argmin_f32_i32 (F := Ideal)) keeps
    (Host.argReduceFiber (α := EReal) x (iotaInDim S8192x8192 32 1) reducesTo_S8192x8192_S8192_d1 (ix1 i)) (⊤, 0#32)
  have hj' := h3 _ ((mem_row x i _).2 ⟨j, rfl⟩)
  rw [mem_row] at h1
  generalize List.foldl _ _ _ = p at h1 hj' ⊢
  have hle := not_lt.2 hj'
  rw [key_lt, not_or, not_and] at hle
  obtain ⟨ha, hb⟩ := hle
  rcases h1 with rfl | ⟨k, rfl⟩
  · have htop : (x (ix2 i j) : EReal) = ⊤ := top_le_iff.1 (not_lt.1 ha)
    have h0 : j ≤ 0 := (hj 0).2 (top_le_iff.1 (htop ▸ (hj 0).1) |>.trans htop.symm)
    rw [Fin.le_zero_iff.1 h0]; rfl
  · have he : (x (ix2 i k) : EReal) = x (ix2 i j) := le_antisymm (not_lt.1 ha) (hj k).1
    have hjk : j ≤ k := (hj k).2 he
    have hkj := not_lt.1 (hb he.symm)
    simp only [toInt_small (show k.val < 2 ^ 31 by omega), toInt_small (show j.val < 2 ^ 31 by omega)] at hkj
    rw [le_antisymm (Fin.le_def.2 (by exact_mod_cast hkj)) hjk]

end Cert.ReferenceIdeal.Hand

end
-- ==== Proof.Equation.lean ====
/- Where every entry is a real number, the kernel's two results are the reference's. -/
module

public import proofs.«01_k».proof.Proof.Arrays
public import proofs.«01_k».proof.Proof.Reference

@[expose] public section

noncomputable section

namespace Cert.Hand

open Cert.KernelIdeal Idealize.ShloMosaic Cert.FirstLeast
open Cert.KernelIdeal.Hand (rowScore best best_first dists places beside paired)
open Cert.ReferenceIdeal.Hand (far least place far_apply least_apply place_apply)

/-- The words of the two constants, 2 and -2. -/
theorem two_bits : Ideal.ofBits .f32 0x40000000#32 = ((2 : ℝ) : EReal) := by
  simp [Ideal.ofBits, Ideal.ieee, -EReal.coe_mul]; norm_num

theorem minus_two_bits : Ideal.ofBits .f32 0xC0000000#32 = ((-2 : ℝ) : EReal) := by
  simp [Ideal.ofBits, Ideal.ieee, -EReal.coe_mul, -EReal.coe_neg]; norm_num

/-- A sum of real numbers, as an extended real, is the sum of those. -/
theorem coe_sum {n : ℕ} (f : Fin n → ℝ) : (∑ k, (f k : EReal)) = ((∑ k, f k : ℝ) : EReal) :=
  (map_sum (⟨⟨(fun r : ℝ => (r : EReal)), EReal.coe_zero⟩, EReal.coe_add⟩ : ℝ →+ EReal) f Finset.univ).symm

/-- The root of a real number, cut off below at zero. -/
theorem sqrt_coe (r : ℝ) : Ideal.sqrt (max (r : EReal) 0) = (Real.sqrt r : EReal) := by
  rw [show max (r : EReal) 0 = ((max r 0 : ℝ) : EReal) from (EReal.coe_strictMono.monotone.map_max (a := r) (b := 0)).symm]
  show (if max r 0 < 0 then ⊥ else (Real.sqrt (max r 0) : EReal)) = _
  rw [if_neg (not_lt.2 (le_max_right r 0))]
  rcases le_total r 0 with h | h
  · rw [max_eq_right h, Real.sqrt_zero, Real.sqrt_eq_zero_of_nonpos h]
  · rw [max_eq_left h]

variable (a b : S8192x128.Idx → ℝ)

/-- The arrays of extended reals that hold the given real numbers. -/
abbrev lift (a : S8192x128.Idx → ℝ) : FVec Ideal S8192x128 .f32 := fun i => (a i : EReal)

/-- The score over the real numbers. -/
def realScore (i j : Fin 8192) : ℝ := (∑ k : Fin 128, b (ix2 j k) * b (ix2 j k)) + ∑ k : Fin 128, a (ix2 i k) * -2 * b (ix2 j k)

/-- The squared norm of a row over the real numbers. -/
def realNorm (i : Fin 8192) : ℝ := ∑ k : Fin 128, a (ix2 i k) * a (ix2 i k)

/-- The kernel's score is the score over the real numbers. -/
theorem score_eq (i j : Fin 8192) : rowScore (lift a) (lift b) i j = (realScore a b i j : EReal) := by
  unfold rowScore realScore
  rw [minus_two_bits, EReal.coe_add, ← coe_sum, ← coe_sum]
  simp only [EReal.coe_mul]

/-- Norm and score together are a sum of squares. -/
theorem nonneg (i j : Fin 8192) : 0 ≤ realNorm a i + realScore a b i j := by
  have h : realNorm a i + realScore a b i j = ∑ k : Fin 128, (a (ix2 i k) - b (ix2 j k)) ^ 2 := by
    unfold realNorm realScore
    rw [← Finset.sum_add_distrib, ← Finset.sum_add_distrib]
    exact Finset.sum_congr rfl fun k _ => by ring
  rw [h]
  exact Finset.sum_nonneg fun k _ => sq_nonneg _

/-- The reference's distance is the root of norm and score together. -/
theorem far_eq (i j : Fin 8192) :
    far (lift a) (lift b) (ix2 i j) = (Real.sqrt (realNorm a i + realScore a b i j) : EReal) := by
  rw [far_apply, ← sqrt_coe]
  congr 2
  simp only [← EReal.coe_mul, coe_sum, two_bits, ← EReal.coe_add, ← EReal.coe_sub]
  congr 1
  unfold realNorm realScore
  rw [sub_eq_add_neg, add_assoc, Finset.mul_sum, ← Finset.sum_neg_distrib]
  congr 2
  exact Finset.sum_congr rfl fun k _ => by ring

/-- The kernel's distance is that root too, at the best row. -/
theorem dists_eq (i : Fin 8192) :
    dists (lift a) (lift b) (ix2 i 0)
      = (Real.sqrt (realNorm a i + realScore a b i (best (lift a) (lift b) i)) : EReal) := by
  have h : dists (lift a) (lift b) (ix2 i 0) = Ideal.sqrt (max ((∑ k : Fin 128, (a (ix2 i k) : EReal) * (a (ix2 i k) : EReal))
      + rowScore (lift a) (lift b) i (best (lift a) (lift b) i)) 0) := rfl
  rw [h, score_eq, ← sqrt_coe]
  simp only [← EReal.coe_mul, coe_sum, ← EReal.coe_add]
  rfl

/-- The row with the first least score is the row at the first least distance. -/
theorem first_far (i : Fin 8192) :
    First (fun j => (far (lift a) (lift b) (ix2 i j) : EReal)) (best (lift a) (lift b) i) := by
  refine (best_first (lift a) (lift b) i).congr fun k l => ?_
  rw [score_eq, score_eq, far_eq, far_eq, EReal.coe_le_coe_iff, EReal.coe_le_coe_iff, Real.sqrt_le_sqrt_iff (nonneg a b i l)]
  exact (add_le_add_iff_left _).symm

/-- An index of a column is a row. -/
theorem column (y : S8192x1.Idx) : ∃ i : Fin 8192, y = ix2 i 0 := by
  refine ⟨y 0, ?_⟩
  funext d
  match d with
  | ⟨0, _⟩ => rfl
  | ⟨1, _⟩ => exact Subsingleton.elim (α := Fin 1) _ _

/-- An array reshaped to a column is read at the row. -/
theorem tall {α : Type} (x : S8192.Idx → α) (h : S8192.ShapeCasts S8192x1) (i : Fin 8192) :
    shapeCast S8192x1 x h (ix2 i 0) = x (ix1 i) := by
  pointwise

/-- The first result: the least distances. -/
theorem result0 (h : S8192.ShapeCasts S8192x1) :
    shapeCast S8192x1 (least (far (lift a) (lift b))) h = dists (lift a) (lift b) := by
  funext y
  obtain ⟨i, rfl⟩ := column y
  rw [tall, least_apply _ _ (first_far a b i), far_eq, dists_eq]

/-- The second result's last column: the rows at the least distances. -/
theorem result1 (h : S8192.ShapeCasts S8192x1) :
    shapeCast S8192x1 (place (far (lift a) (lift b))) h = places (lift a) (lift b) := by
  funext y
  obtain ⟨i, rfl⟩ := column y
  rw [tall, place_apply _ _ (first_far a b i)]
  rfl

end Cert.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Finite
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- From arguments of real numbers the kernel and the reference end with the same two results. -/
theorem equal : Cert.algebraic_KernelIdeal_ReferenceIdeal_pre_finite (hKernelIdeal := Cert.KernelIdeal.Gen.facts)
    (hReferenceIdeal := Cert.ReferenceIdeal.Gen.facts) (hPre_finite := Cert.Pre_finite.Hand.facts) := by
  intro m g m' g' hpre hagree
  refine ⟨_, _, Cert.KernelIdeal.Hand.run m g, (θ_run _ _ _).mono (fun r h c => ?_) (Cert.ReferenceIdeal.Hand.run m' g')⟩
  obtain ⟨h0, h1, hA, hB⟩ := h c
  obtain ⟨hfA, hfB⟩ := Cert.Pre_finite.Hand.finite (hpre c)
  choose a ha using hfA
  choose b hb using hfB
  have eA : Cert.KernelIdeal.Hand.argA m c = Cert.Hand.lift a := funext ha
  have eB : Cert.KernelIdeal.Hand.argB m c = Cert.Hand.lift b := funext hb
  have eA' : Cert.ReferenceIdeal.Hand.argA m' c = Cert.Hand.lift a := (hagree c).1.trans eA
  have eB' : Cert.ReferenceIdeal.Hand.argB m' c = Cert.Hand.lift b := (hagree c).2.trans eB
  refine ⟨h0.trans ?_, h1.trans ?_, hA, hB⟩
  · rw [eA, eB, eA', eB']
    exact Cert.Hand.result0 a b _
  · rw [eA, eB, eA', eB']
    exact congrArg Cert.KernelIdeal.Hand.paired (Cert.Hand.result1 a b _)

/-- All the claims. -/
theorem claim : Cert.Claim :=
  ⟨Cert.Kernel.Gen.facts, Cert.KernelIdeal.Gen.facts, Cert.ReferenceIdeal.Gen.facts, Cert.Pre_finite.Hand.facts,
    fun m g _ => Cert.Kernel.Gen.frame m g, fun m g _ => Cert.KernelIdeal.Gen.frame m g,
    fun m g _ => Cert.KernelIdeal.Gen.frame m g, fun m g _ => Cert.ReferenceIdeal.Hand.frame m g,
    fun m g _ => Cert.ReferenceIdeal.Hand.frame m g, trivial, equal⟩

end Cert.Proof

end
